-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v4)) (v3 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_v5) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_v15) = v2 c
          ∧ r.2.mem ((c.tc : Thread Cert.ReferenceIdeal.nD Cert.ReferenceIdeal.τ).loc Cert.ReferenceIdeal.main_v35) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x1024x32 : Shape := ⟨3, ![16, 1024, 32]⟩
abbrev S8192x32 : Shape := ⟨2, ![8192, 32]⟩
abbrev S16384x32 : Shape := ⟨2, ![16384, 32]⟩
abbrev S16384x1 : Shape := ⟨2, ![16384, 1]⟩
abbrev S1x1 : Shape := ⟨2, ![1, 1]⟩
abbrev S1x8192 : Shape := ⟨2, ![1, 8192]⟩
abbrev S512x32 : Shape := ⟨2, ![512, 32]⟩
abbrev S512x1 : Shape := ⟨2, ![512, 1]⟩
abbrev S512 : Shape := ⟨1, ![512]⟩
abbrev S4096x32 : Shape := ⟨2, ![4096, 32]⟩
abbrev S4096 : Shape := ⟨1, ![4096]⟩
abbrev S1x4096 : Shape := ⟨2, ![1, 4096]⟩
abbrev S512x4096 : Shape := ⟨2, ![512, 4096]⟩
abbrev S1x512x32 : Shape := ⟨3, ![1, 512, 32]⟩
abbrev S1 : Shape := ⟨1, ![1]⟩
abbrev S1x1x1 : Shape := ⟨3, ![1, 1, 1]⟩
abbrev S1x1x8192 : Shape := ⟨3, ![1, 1, 8192]⟩
abbrev S_ : Shape := ⟨0, ![]⟩
abbrev S16384 : Shape := ⟨1, ![16384]⟩

abbrev nBuf : Space → Nat
  | .hbm => 12
  | .vmem => 10
  | .smem => 0
  | _ => 0

abbrev bufTy : (tb : Table) → Fin (tcTables nBuf tb) → BufTy
  | .hbm, ⟨0, _⟩ => ⟨S16x1024x32, .f32⟩
  | .hbm, ⟨1, _⟩ => ⟨S8192x32, .f32⟩
  | .hbm, ⟨2, _⟩ => ⟨S16384x32, .f32⟩
  | .hbm, ⟨3, _⟩ => ⟨S16384x32, .f32⟩
  | .hbm, ⟨4, _⟩ => ⟨S16384x1, .i32⟩
  | .hbm, ⟨5, _⟩ => ⟨S1x1, .f32⟩
  | .hbm, ⟨6, _⟩ => ⟨S1x1, .f32⟩
  | .hbm, ⟨7, _⟩ => ⟨S1x8192, .f32⟩
  | .hbm, ⟨8, _⟩ => ⟨S16x1024x32, .f32⟩
  | .hbm, ⟨9, _⟩ => ⟨S_, .f32⟩
  | .hbm, ⟨10, _⟩ => ⟨S16384, .i32⟩
  | .hbm, ⟨11, _⟩ => ⟨S_, .f32⟩
  | .local _ .vmem, ⟨0, _⟩ => ⟨S512x32, .f32⟩
  | .local _ .vmem, ⟨1, _⟩ => ⟨S512x32, .f32⟩
  | .local _ .vmem, ⟨2, _⟩ => ⟨S8192x32, .f32⟩
  | .local _ .vmem, ⟨3, _⟩ => ⟨S512x32, .f32⟩
  | .local _ .vmem, ⟨4, _⟩ => ⟨S512x32, .f32⟩
  | .local _ .vmem, ⟨5, _⟩ => ⟨S512x1, .i32⟩
  | .local _ .vmem, ⟨6, _⟩ => ⟨S512x1, .i32⟩
  | .local _ .vmem, ⟨7, _⟩ => ⟨S1x1, .f32⟩
  | .local _ .vmem, ⟨8, _⟩ => ⟨S1x1, .f32⟩
  | .local _ .vmem, ⟨9, _⟩ => ⟨S1x8192, .f32⟩
  | _, _ => ⟨S16x1024x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev main_v1_4 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c31_i32 : BitVec 32 := 31#32
  let v104 : BitVec 1 := Scalar.cmpi .eq arg0 c31_i32
  let v105 : BitVec 32 := Scalar.extui v104
  let c0_i32_45 : BitVec 32 := 0#32
  let v106 : BitVec 1 := Scalar.cmpi .ne v105 c0_i32_45
  v106

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S16x1024x32 : Shape := ⟨3, ![16, 1024, 32]⟩
abbrev S8192x32 : Shape := ⟨2, ![8192, 32]⟩
abbrev S16384x32 : Shape := ⟨2, ![16384, 32]⟩
abbrev S_ : Shape := ⟨0, ![]⟩
abbrev S16384 : Shape := ⟨1, ![16384]⟩
abbrev S16384x1 : Shape := ⟨2, ![16384, 1]⟩
abbrev S8192 : Shape := ⟨1, ![8192]⟩
abbrev S1x8192 : Shape := ⟨2, ![1, 8192]⟩
abbrev S16384x8192 : Shape := ⟨2, ![16384, 8192]⟩
abbrev S32x8192 : Shape := ⟨2, ![32, 8192]⟩

abbrev nBuf : Space → Nat
  | .hbm => 57
  | .vmem => 0
  | .smem => 0
  | _ => 0

abbrev bufTy : (tb : Table) → Fin (tcTables nBuf tb) → BufTy
  | .hbm, ⟨0, _⟩ => ⟨S16x1024x32, .f32⟩
  | .hbm, ⟨1, _⟩ => ⟨S8192x32, .f32⟩
  | .hbm, ⟨2, _⟩ => ⟨S16384x32, .f32⟩
  | .hbm, ⟨3, _⟩ => ⟨S16384x32, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S8192x32, .f32⟩
  | .hbm, ⟨8, _⟩ => ⟨S_, .f32⟩
  | .hbm, ⟨9, _⟩ => ⟨S8192, .f32⟩
  | .hbm, ⟨10, _⟩ => ⟨S1x8192, .f32⟩
  | .hbm, ⟨11, _⟩ => ⟨S16384x8192, .f32⟩
  | .hbm, ⟨12, _⟩ => ⟨S16384x8192, .f32⟩
  | .hbm, ⟨13, _⟩ => ⟨S16384x8192, .f32⟩
  | .hbm, ⟨14, _⟩ => ⟨S32x8192, .f32⟩
  | .hbm, ⟨15, _⟩ => ⟨S16384x8192, .f32⟩
  | .hbm, ⟨16, _⟩ => ⟨S_, .f32⟩
  | .hbm, ⟨17, _⟩ => ⟨S16384x8192, .f32⟩
  | .hbm, ⟨18, _⟩ => ⟨S16384x8192, .f32⟩
  | .hbm, ⟨19, _⟩ => ⟨S16384x8192, .f32⟩
  | .hbm, ⟨20, _⟩ => ⟨S16384x8192, .i32⟩
  | .hbm, ⟨21, _⟩ => ⟨S_, .f32⟩
  | .hbm, ⟨22, _⟩ => ⟨S_, .i32⟩
  | .hbm, ⟨23, _⟩ => ⟨S16384, .f32⟩
  | .hbm, ⟨24, _⟩ => ⟨S16384, .i32⟩
  | .hbm, ⟨25, _⟩ => ⟨S16384x1, .i32⟩
  | .hbm, ⟨26, _⟩ => ⟨S1x8192, .i32⟩
  | .hbm, ⟨27, _⟩ => ⟨S16384x8192, .i32⟩
  | .hbm, ⟨28, _⟩ => ⟨S16384x8192, .i32⟩
  | .hbm, ⟨29, _⟩ => ⟨S16384x8192, .i1⟩
  | .hbm, ⟨30, _⟩ => ⟨S16384x8192, .f32⟩
  | .hbm, ⟨31, _⟩ => ⟨S16384x32, .f32⟩
  | .hbm, ⟨32, _⟩ => ⟨S16x1024x32, .f32⟩
  | .hbm, ⟨33, _⟩ => ⟨S16x1024x32, .f32⟩
  | .hbm, ⟨34, _⟩ => ⟨S16x1024x32, .f32⟩
  | .hbm, ⟨35, _⟩ => ⟨S16x1024x32, .f32⟩
  | .hbm, ⟨36, _⟩ => ⟨S16x1024x32, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S8192, .f32⟩
  | .hbm, ⟨45, _⟩ => ⟨S_, .f32⟩
  | .hbm, ⟨46, _⟩ => ⟨S8192, .f32⟩
  | .hbm, ⟨47, _⟩ => ⟨S8192, .f32⟩
  | .hbm, ⟨48, _⟩ => ⟨S_, .f32⟩
  | .hbm, ⟨49, _⟩ => ⟨S8192, .f32⟩
  | .hbm, ⟨50, _⟩ => ⟨S8192, .f32⟩
  | .hbm, ⟨51, _⟩ => ⟨S8192, .f32⟩
  | .hbm, ⟨52, _⟩ => ⟨S8192, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | _, _ => ⟨S16x1024x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_v0 : Ref sig .tc := ⟨.hbm, 20, rfl⟩
abbrev main_call0_cst : Ref sig .tc := ⟨.hbm, 21, rfl⟩
abbrev main_call0_c : Ref sig .tc := ⟨.hbm, 22, rfl⟩
abbrev main_call0_v1_0 : Ref sig .tc := ⟨.hbm, 23, rfl⟩
abbrev main_v15 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_cst_6 : Ref sig .tc := ⟨.hbm, 45, rfl⟩
abbrev main_v27 : Ref sig .tc := ⟨.hbm, 46, rfl⟩
abbrev main_v28 : Ref sig .tc := ⟨.hbm, 47, rfl⟩
abbrev main_cst_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_8 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩

abbrev nD : Nat := 1
abbrev τ : Topo := Topo.v7x

variable {F : FTy → Type} [FloatOps F]
-- ==== Proof.Nearest.lean ====
/- The mathematics of a nearest-codeword search, naming no program: the first index at which a list of
   extended reals is least, how a search over chunks finds it (a minimum, then the least index that
   attains it, chunk against chunk), how a left fold over (value, index) pairs finds it, and what the
   one-hot row at that index selects. -/
module

public import Idealize.ShloMosaic.Lib.Pointwise
public import Idealize.ShloMosaic.PureOps.Ideal.Laws

@[expose] public section

noncomputable section

open Idealize.ShloMosaic

namespace Cert.Vq

/-! ## The first index with the least value -/

/-- `k` is the first index at which `d` is least: no value is below `d k`, every earlier one is above it. -/
structure IsFirstMin {n : ℕ} (d : Fin n → EReal) (k : Fin n) : Prop where
  le : ∀ j, d k ≤ d j
  lt : ∀ j, j < k → d k < d j

/-- There is at most one first index with the least value. -/
theorem IsFirstMin.unique {n : ℕ} {d : Fin n → EReal} {k l : Fin n} (hk : IsFirstMin d k) (hl : IsFirstMin d l) : k = l := by
  rcases lt_trichotomy k l with h | h | h
  · exact absurd (hk.le l) (not_le.mpr (hl.lt k h))
  · exact h
  · exact absurd (hl.le k) (not_le.mpr (hk.lt l h))

/-- A nonempty list of values has a first index with the least value. -/
theorem exists_isFirstMin {n : ℕ} [NeZero n] (d : Fin n → EReal) : ∃ k, IsFirstMin d k := by
  classical
  obtain ⟨k₀, -, h₀⟩ := Finset.exists_min_image Finset.univ d ⟨0, Finset.mem_univ _⟩
  let S : Finset (Fin n) := Finset.univ.filter fun k => ∀ j, d k ≤ d j
  have hS : S.Nonempty := ⟨k₀, by simpa [S] using fun j => h₀ j (Finset.mem_univ j)⟩
  have hm : ∀ j, d (S.min' hS) ≤ d j := by simpa [S] using S.min'_mem hS
  refine ⟨S.min' hS, hm, fun j hj => lt_of_le_of_ne (hm j) fun e => ?_⟩
  have hjS : j ∈ S := by simpa [S] using fun i => e ▸ hm i
  exact absurd (S.min'_le j hjS) (not_le.mpr hj)

/-- The first index at which `d` is least. -/
def nearest {n : ℕ} [NeZero n] (d : Fin n → EReal) : Fin n := (exists_isFirstMin d).choose

theorem nearest_spec {n : ℕ} [NeZero n] (d : Fin n → EReal) : IsFirstMin d (nearest d) := (exists_isFirstMin d).choose_spec

theorem nearest_eq {n : ℕ} [NeZero n] {d : Fin n → EReal} {k : Fin n} (hk : IsFirstMin d k) : nearest d = k :=
  (nearest_spec d).unique hk

/-! ## By a minimum and the least index that attains it -/

/-- The minimum from `⊤` over all indices is the value at the first least one. -/
theorem fold_min_eq {n : ℕ} {d : Fin n → EReal} {k : Fin n} (hk : IsFirstMin d k) :
    (Finset.univ : Finset (Fin n)).fold min ⊤ d = d k :=
  le_antisymm ((Finset.fold_min_le _).mpr (Or.inr ⟨k, Finset.mem_univ k, le_rfl⟩))
    ((Finset.le_fold_min _).mpr ⟨le_top, fun j _ => hk.le j⟩)

/-- The signed minimum of two words, read as an integer. -/
theorem toInt_minsi (x y : BitVec 32) : (IntOp.minsi x y).toInt = min x.toInt y.toInt := by
  unfold IntOp.minsi
  by_cases h : x.toInt < y.toInt
  · rw [if_pos (by simpa [BitVec.slt] using h), min_eq_left h.le]
  · rw [if_neg (by simpa [BitVec.slt] using h), min_eq_right (not_lt.mp h)]

/-- A word of the family that is at most every word of it, and at most the start, is the fold of the signed minimum. -/
theorem fold_minsi_eq {ι : Type} [DecidableEq ι] (s : Finset ι) (f : ι → BitVec 32) (b w : BitVec 32) (k : ι) (hk : k ∈ s)
    (hw : f k = w) (hb : w.toInt ≤ b.toInt) (hle : ∀ i ∈ s, w.toInt ≤ (f i).toInt) : s.fold IntOp.minsi b f = w := by
  have key : ∀ t : Finset ι, (t.fold IntOp.minsi b f).toInt = t.fold min b.toInt fun i => (f i).toInt := fun t => by
    induction t using Finset.induction_on with
    | empty => rfl
    | insert a t ha ih => rw [Finset.fold_insert ha, Finset.fold_insert ha, toInt_minsi, ih]
  refine BitVec.eq_of_toInt_eq ((key s).trans (le_antisymm ?_ ?_))
  · exact (Finset.fold_min_le _).mpr (Or.inr ⟨k, hk, (congrArg BitVec.toInt hw).le⟩)
  · exact (Finset.le_fold_min _).mpr ⟨hb, hle⟩

/-- A small index plus a small offset, read as an integer. -/
theorem toInt_index (i : ℕ) (off : BitVec 32) (h : i + off.toNat < 2 ^ 30) :
    (IntOp.addi (BitVec.ofNat 32 i) off).toInt = ((i + off.toNat : ℕ) : ℤ) := by
  have e : (IntOp.addi (BitVec.ofNat 32 i) off).toNat = i + off.toNat := by
    unfold IntOp.addi
    rw [BitVec.toNat_add, BitVec.toNat_ofNat]
    omega
  rw [BitVec.toInt_eq_toNat_cond, e]
  split <;> omega

/-- ONE CHUNK'S SEARCH: every index whose value is at most the chunk's least value stands for itself (plus the chunk's
    offset), every other one for a number above all of them; the least of these numbers is the first least index. -/
theorem fold_index_eq {n : ℕ} {d : Fin n → EReal} {k : Fin n} (hk : IsFirstMin d k) (off : BitVec 32) (hn : n + off.toNat < 2 ^ 30) :
    (Finset.univ : Finset (Fin n)).fold IntOp.minsi 2147483647#32
        (fun x => if d x ≤ d k then IntOp.addi (BitVec.ofNat 32 x.val) off else 1073741824#32)
      = BitVec.ofNat 32 (k.val + off.toNat) := by
  classical
  have hval : IntOp.addi (BitVec.ofNat 32 k.val) off = BitVec.ofNat 32 (k.val + off.toNat) := by
    apply BitVec.eq_of_toNat_eq
    unfold IntOp.addi
    simp only [BitVec.toNat_add, BitVec.toNat_ofNat]
    omega
  have hki := toInt_index k.val off (by have := k.isLt; omega)
  rw [hval] at hki
  refine fold_minsi_eq _ _ _ _ k (Finset.mem_univ k) (by rw [if_pos le_rfl, hval]) ?_ fun x _ => ?_
  · rw [hki, show (2147483647#32 : BitVec 32).toInt = 2147483647 from by decide]
    have := k.isLt; omega
  · rw [hki]
    split
    · next hx =>
      rw [toInt_index x.val off (by have := x.isLt; omega)]
      have : ¬ x < k := fun h => absurd hx (not_le.mpr (hk.lt x h))
      have : k.val ≤ x.val := not_lt.mp this
      omega
    · rw [show (1073741824#32 : BitVec 32).toInt = 1073741824 from by decide]
      have := k.isLt; omega

/-- TWO CHUNKS: the second chunk's first least index wins only where its value is strictly below the first chunk's. -/
theorem isFirstMin_two {n : ℕ} {d : Fin (n + n) → EReal} {k₀ k₁ : Fin n}
    (h₀ : IsFirstMin (fun k : Fin n => d (Fin.castAdd n k)) k₀) (h₁ : IsFirstMin (fun k : Fin n => d (Fin.natAdd n k)) k₁) :
    IsFirstMin d (if d (Fin.natAdd n k₁) < d (Fin.castAdd n k₀) then Fin.natAdd n k₁ else Fin.castAdd n k₀) := by
  split
  · next h =>
    refine ⟨fun j => ?_, fun j => ?_⟩
    · exact Fin.addCases (fun i => h.le.trans (h₀.le i)) (fun i => h₁.le i) j
    · refine Fin.addCases (fun i _ => h.trans_le (h₀.le i)) (fun i hi => h₁.lt i ?_) j
      simpa using hi
  · next h =>
    refine ⟨fun j => ?_, fun j => ?_⟩
    · exact Fin.addCases (fun i => h₀.le i) (fun i => (not_lt.mp h).trans (h₁.le i)) j
    · refine Fin.addCases (fun i hi => h₀.lt i hi) (fun i hi => ?_) j
      exact absurd hi (by simp [Fin.lt_def]; omega)

/-! ## By a left fold over (value, index) pairs -/

/-- A left fold of an operation that returns one of its two operands and one below both, for a transitive relation, ends at
    one of the start and the list's elements that is below all of them. -/
theorem foldl_least {α : Type} (R : α → α → Prop) (f : α → α → α) (hrefl : ∀ a, R a a) (htrans : ∀ a b c, R a b → R b c → R a c)
    (hl : ∀ a b, R (f a b) a) (hr : ∀ a b, R (f a b) b) (hm : ∀ a b, f a b = a ∨ f a b = b) (L : List α) (a : α) :
    R (L.foldl f a) a ∧ (∀ p ∈ L, R (L.foldl f a) p) ∧ (L.foldl f a = a ∨ L.foldl f a ∈ L) := by
  induction L generalizing a with
  | nil => exact ⟨hrefl a, fun p hp => absurd hp List.not_mem_nil, Or.inl rfl⟩
  | cons b L ih =>
    obtain ⟨h1, h2, h3⟩ := ih (f a b)
    rw [List.foldl_cons]
    refine ⟨htrans _ _ _ h1 (hl a b), fun p hp => ?_, ?_⟩
    · rcases List.mem_cons.mp hp with rfl | hp
      · exact htrans _ _ _ h1 (hr a p)
      · exact h2 p hp
    · rcases h3 with h3 | h3
      · rcases hm a b with e | e
        · exact Or.inl (h3.trans e)
        · exact Or.inr (by rw [h3, e]; exact List.mem_cons_self)
      · exact Or.inr (List.mem_cons_of_mem _ h3)

/-- Value first, then index: the order in which an arg-min compares its pairs. -/
def Below (a b : EReal × BitVec 32) : Prop := a.1 < b.1 ∨ a.1 = b.1 ∧ a.2.toInt ≤ b.2.toInt

theorem Below.refl (a : EReal × BitVec 32) : Below a a := Or.inr ⟨rfl, le_rfl⟩

theorem Below.trans (a b c : EReal × BitVec 32) (h : Below a b) (h' : Below b c) : Below a c := by
  rcases h with h | ⟨h, hi⟩ <;> rcases h' with h' | ⟨h', hi'⟩
  · exact Or.inl (h.trans h')
  · exact Or.inl (h' ▸ h)
  · exact Or.inl (h ▸ h')
  · exact Or.inr ⟨h.trans h', hi.trans hi'⟩

theorem Below.antisymm {a b : EReal × BitVec 32} (h : Below a b) (h' : Below b a) : a = b := by
  rcases h with h | ⟨h, hi⟩ <;> rcases h' with h' | ⟨h', hi'⟩
  · exact absurd h' (not_lt.mpr h.le)
  · exact absurd h (by rw [h']; exact lt_irrefl _)
  · exact absurd h' (by rw [h]; exact lt_irrefl _)
  · exact Prod.ext h (BitVec.eq_of_toInt_eq (le_antisymm hi hi'))

/-- THE LEFT FOLD: from `(⊤, 0)`, over a list that holds exactly the pairs `(d k, k)`, an operation that keeps the pair below
    the other ends at the first least index's pair. -/
theorem foldl_pairs_eq {n : ℕ} (hn : n < 2 ^ 30) {d : Fin n → EReal} {k : Fin n} (hk : IsFirstMin d k)
    (f : EReal × BitVec 32 → EReal × BitVec 32 → EReal × BitVec 32)
    (hl : ∀ a b, Below (f a b) a) (hr : ∀ a b, Below (f a b) b) (hm : ∀ a b, f a b = a ∨ f a b = b)
    (L : List (EReal × BitVec 32)) (hL : ∀ p, p ∈ L ↔ ∃ j : Fin n, p = (d j, BitVec.ofNat 32 j.val)) :
    L.foldl f (⊤, 0#32) = (d k, BitVec.ofNat 32 k.val) := by
  have hint : ∀ j : Fin n, (BitVec.ofNat 32 j.val).toInt = (j.val : ℤ) := fun j => by
    have := j.isLt
    rw [BitVec.toInt_eq_toNat_cond, BitVec.toNat_ofNat]
    split <;> omega
  obtain ⟨h1, h2, h3⟩ := foldl_least Below f Below.refl Below.trans hl hr hm L (⊤, 0#32)
  have hkj : ∀ j : Fin n, Below (d k, BitVec.ofNat 32 k.val) (d j, BitVec.ofNat 32 j.val) := fun j => by
    rcases lt_or_eq_of_le (hk.le j) with h | h
    · exact Or.inl h
    · refine Or.inr ⟨h, ?_⟩
      rw [hint, hint]
      have : ¬ j < k := fun hj => absurd (hk.lt j hj) (by rw [h]; exact lt_irrefl _)
      have : k.val ≤ j.val := not_lt.mp this
      omega
  refine Below.antisymm (h2 _ ((hL _).mpr ⟨k, rfl⟩)) ?_
  rcases h3 with h3 | h3
  · rw [h3]
    rcases lt_or_eq_of_le (le_top : d k ≤ ⊤) with h | h
    · exact Or.inl h
    · refine Or.inr ⟨h, ?_⟩
      have : ¬ 0 < k.val := fun hpos => by
        have := hk.lt ⟨0, by have := k.isLt; omega⟩ hpos
        rw [h] at this
        exact absurd this not_top_lt
      rw [hint]
      have e : k.val = 0 := by omega
      rw [e]; decide
  · obtain ⟨j, hj⟩ := (hL _).mp h3
    rw [hj]; exact hkj j

/-! ## The one-hot row -/

/-- A comparison bit widened to a word and read as a number is 1 where the words are equal and 0 elsewhere; -/
theorem hot_signed (a b : BitVec 32) :
    FloatOps.sitofp (F := Ideal) .f32 (BitVec.setWidth 32 (IntOp.cmpi .eq a b)) = if a = b then (1 : EReal) else 0 := by
  show ((((BitVec.setWidth 32 (IntOp.cmpi .eq a b)).toInt : ℝ)) : EReal) = _
  unfold IntOp.cmpi
  by_cases h : a = b
  · simp [h]
  · have e : (a == b) = false := beq_eq_false_iff_ne.mpr h
    simp [h, e]

/-- so is the bit itself read as a number. -/
theorem hot_unsigned (a b : BitVec 32) :
    FloatOps.uitofp (F := Ideal) .f32 (IntOp.cmpi .eq a b) = if a = b then (1 : EReal) else 0 := by
  show ((((IntOp.cmpi .eq a b).toNat : ℝ)) : EReal) = _
  unfold IntOp.cmpi
  by_cases h : a = b <;> simp [h]

/-- The word of a small index plus a small offset. -/
theorem addi_index (i : ℕ) (off : BitVec 32) : IntOp.addi (BitVec.ofNat 32 i) off = BitVec.ofNat 32 (i + off.toNat) := by
  unfold IntOp.addi
  apply BitVec.eq_of_toNat_eq
  simp only [BitVec.toNat_add, BitVec.toNat_ofNat]
  omega

/-- Small numbers have equal words only if they are equal. -/
theorem ofNat_eq_iff {i j : ℕ} (hi : i < 2 ^ 30) (hj : j < 2 ^ 30) : BitVec.ofNat 32 i = BitVec.ofNat 32 j ↔ i = j := by
  refine ⟨fun h => ?_, fun h => by rw [h]⟩
  have := congrArg BitVec.toNat h
  simp only [BitVec.toNat_ofNat] at this
  omega

/-- A row with 1 at `k` and 0 elsewhere, weighted against `f`, gives `f k`: zero times any extended real is zero. -/
theorem sum_hot_mul {ι : Type} [Fintype ι] [DecidableEq ι] (k : ι) (f : ι → EReal) :
    ∑ x, (if x = k then (1 : EReal) else 0) * f x = f k := by
  rw [Finset.sum_eq_single k (fun x _ hx => by rw [if_neg hx, zero_mul]) (fun h => absurd (Finset.mem_univ k) h), if_pos rfl, one_mul]

/-- A row with 1 nowhere gives 0. -/
theorem sum_hot_mul_none {ι : Type} [Fintype ι] (p : ι → Prop) [DecidablePred p] (hp : ∀ x, ¬ p x) (f : ι → EReal) :
    ∑ x, (if p x then (1 : EReal) else 0) * f x = 0 :=
  Finset.sum_eq_zero fun x _ => by rw [if_neg (hp x), zero_mul]

/-! ## A list in two halves -/

/-- The place of an index of the first half in a list of twice the length. -/
def inLo {n m : ℕ} (h : m = n + n) (k : Fin n) : Fin m := ⟨k.val, by omega⟩

/-- The place of an index of the second half. -/
def inHi {n m : ℕ} (h : m = n + n) (k : Fin n) : Fin m := ⟨n + k.val, by omega⟩

/-- The first least index of a list from those of its halves: the second half wins only with a smaller value. -/
theorem nearest_halves {n m : ℕ} [NeZero m] (h : m = n + n) {d : Fin m → EReal} {k₀ k₁ : Fin n}
    (h₀ : IsFirstMin (fun k => d (inLo h k)) k₀) (h₁ : IsFirstMin (fun k => d (inHi h k)) k₁) :
    nearest d = if d (inHi h k₁) < d (inLo h k₀) then inHi h k₁ else inLo h k₀ := by
  subst h
  exact nearest_eq (isFirstMin_two h₀ h₁)

/-- A sum over a list is the sum over its halves. -/
theorem sum_halves {n m : ℕ} (h : m = n + n) (f : Fin m → EReal) : ∑ k, f k = (∑ k, f (inLo h k)) + ∑ k, f (inHi h k) := by
  subst h
  exact Fin.sum_univ_add f

/-- An index is in one of the halves. -/
theorem halves_cases {n m : ℕ} (h : m = n + n) (k : Fin m) : (∃ i, k = inLo h i) ∨ ∃ i, k = inHi h i := by
  by_cases hk : k.val < n
  · exact Or.inl ⟨⟨k.val, hk⟩, rfl⟩
  · exact Or.inr ⟨⟨k.val - n, by omega⟩, Fin.ext (by simp only [inHi]; omega)⟩

end Cert.Vq

end
-- ==== Proof.Codes.lean ====
/- The mathematics of the vector quantizer, naming no program: the distances of a row to the codewords, the
   nearest codeword, its one-hot row, the value returned for the row, its squared error, and the
   perplexity of the counts. -/
module

public import proofs.«01_k».proof.Proof.Nearest

@[expose] public section

noncomputable section

open Idealize.ShloMosaic

namespace Cert.Vq

/-- The distance of a row `x` to the codewords `e`, as both programs compute it. -/
def gap {n : ℕ} (x : Fin 32 → EReal) (e : Fin n → Fin 32 → EReal) (k : Fin n) : EReal :=
  (∑ j, x j * x j) + (∑ j, e k j * e k j) - Ideal.ofBits .f32 1073741824#32 * ∑ j, x j * e k j

/-- The first value a minimum of floats starts from. -/
theorem inf_bits : Ideal.ofBits .f32 2139095040#32 = ⊤ := by simp [Ideal.ofBits, Ideal.ieee]

variable (e : Fin 8192 → Fin 32 → EReal) (x : Fin 32 → EReal)

/-- The index of the codeword nearest to the row `x`. -/
def near : Fin 8192 := nearest (gap x e)

/-- The one-hot row: 1 at the nearest codeword, 0 elsewhere. -/
def hot (k : Fin 8192) : EReal := if k = near e x then 1 else 0

/-- The value returned for the row: the row plus (nearest codeword minus row). -/
def out (j : Fin 32) : EReal := x j + (e (near e x) j - x j)

/-- The squared error of the row. -/
def err : EReal := ∑ j, (out e x j - x j) * (out e x j - x j)

/-- The one-hot row against the codewords is the nearest codeword. -/
theorem hot_sum (j : Fin 32) : ∑ k, hot e x k * e k j = e (near e x) j := sum_hot_mul (near e x) fun k => e k j

end Cert.Vq

end
-- ==== Proof.Block.lean ====
/- What one block of the kernel computes at an index, in exact arithmetic: from 512 rows of inputs and the
   two halves of the codebook, the index of the nearest codeword of each row, the one-hot rows, the
   selected codewords, the block's part of the loss and of the counts. -/
module

public import proofs.«01_k».proof.Proof.Gen.KernelIdeal.Skeleton
public import proofs.«01_k».proof.Proof.Codes
public import Idealize.ShloMosaic.Lib.Pipeline.ValueKit

@[expose] public section

set_option maxRecDepth 16384

noncomputable section

open Idealize.ShloMosaic Idealize.ShloMosaic.TcCoe Idealize.SL.Sem

namespace Cert.KernelIdeal.Gen

open Cert.Vq

variable (Z : Vec Ideal S512x32 .f32) (e : Vec Ideal S4096x32 .f32)

/-- Row `r` of a block of inputs. -/
def row (r : Fin 512) : Fin 32 → EReal := fun j => Z (ix2 r j)

/-- The codewords of one chunk. -/
def words : Fin 4096 → Fin 32 → EReal := fun k j => e (ix2 k j)

/-- The distances of the first chunk. -/
theorem pay11_at (r : Fin 512) (k : Fin 4096) : k0_pay11 (F := Ideal) Z e (ix2 r k) = gap (row Z r) (words e) k := by
  unfold k0_pay11 k0_pay10 k0_pay9
  pointwise
  simp [gap, row, words]

/-- The column of the least values of the rows of `d`. -/
abbrev minCol (d : FVec Ideal S512x4096 .f32) : FVec Ideal S512x1 .f32 :=
  shapeCast S512x1 (multiReduction .minimumf [1] S512 d 0x7F800000#32 reduces_S512x4096_S512 (.inl rfl) rfl) shapeCasts_S512_S512x1

theorem minCol_at {d : FVec Ideal S512x4096 .f32} {g : Fin 4096 → EReal} (r : Fin 512) (hd : ∀ k, d (ix2 r k) = g k)
    {k : Fin 4096} (hk : IsFirstMin g k) : minCol d (ix2 r 0) = g k := by
  unfold minCol
  pointwise
  simp only [hd, inf_bits]
  exact fold_min_eq hk

/-- The column of the least indices, from `off`, at which the rows of `d` do not exceed the column `w`. -/
abbrev argCol (d : FVec Ideal S512x4096 .f32) (w : FVec Ideal S512x1 .f32) (off : BitVec 32) : IVec S512x1 32 :=
  shapeCast S512x1 (multiReductionI .minsi [1] S512
    (select (cmpf .ole d (broadcastTo S512x4096 w broadcasts_S512x1_S512x4096))
      (addi (iota .tc S512x4096 32 [1] iota_S512x4096_d1_w32) (broadcast S512x4096 off)) (broadcast S512x4096 1073741824#32))
    2147483647#32 reduces_S512x4096_S512 rfl) shapeCasts_S512_S512x1

theorem argCol_at {d : FVec Ideal S512x4096 .f32} {g : Fin 4096 → EReal} (r : Fin 512) (hd : ∀ k, d (ix2 r k) = g k)
    {k : Fin 4096} (hk : IsFirstMin g k) {w : FVec Ideal S512x1 .f32} (hw : w (ix2 r 0) = g k) (off : BitVec 32)
    (hn : 4096 + off.toNat < 2 ^ 30) : argCol d w off (ix2 r 0) = BitVec.ofNat 32 (k.val + off.toNat) := by
  unfold argCol
  pointwise
  simp only [hd, hw]
  exact fold_index_eq hk off hn

/-- The least distance of the first chunk. -/
theorem pay12_at (r : Fin 512) {k : Fin 4096} (hk : IsFirstMin (gap (row Z r) (words e)) k) :
    k0_pay12 (F := Ideal) Z e (ix2 r 0) = gap (row Z r) (words e) k :=
  minCol_at r (pay11_at Z e r) hk

/-- The first index with the least distance of the first chunk. -/
theorem pay13_at (r : Fin 512) {k : Fin 4096} (hk : IsFirstMin (gap (row Z r) (words e)) k) :
    k0_pay13 (F := Ideal) Z e (ix2 r 0) = BitVec.ofNat 32 k.val := by
  have h := argCol_at r (pay11_at Z e r) hk (pay12_at Z e r hk) 0#32 (by norm_num)
  rw [BitVec.toNat_ofNat, Nat.zero_mod, Nat.add_zero] at h
  exact h

/-- The carried least distance: the two changes of width are the identity on exact values. -/
theorem pay14_at (r : Fin 512) {k : Fin 4096} (hk : IsFirstMin (gap (row Z r) (words e)) k) :
    k0_pay14 (F := Ideal) Z e (ix2 r 0) = gap (row Z r) (words e) k := by
  unfold k0_pay14
  generalize hm : k0_pay12 (F := Ideal) Z e = w
  pointwise
  subst hm
  exact pay12_at Z e r hk

/-- The products of the second chunk. -/
theorem pay15_at (r : Fin 512) (k : Fin 4096) : k0_pay15 (F := Ideal) Z e (ix2 r k) = ∑ j, row Z r j * words e k j := by
  unfold k0_pay15 k0_pay9
  pointwise
  simp [row, words]

/-- The norms of the second chunk. -/
theorem pay16_at (r : Fin 512) (k : Fin 4096) :
    k0_pay16 (F := Ideal) Z e (ix2 r k) = (∑ j, row Z r j * row Z r j) + ∑ j, words e k j * words e k j := by
  unfold k0_pay16 k0_pay10 k0_pay9
  pointwise
  simp [row, words]

/-! ## The two chunks together -/

variable (C : Vec Ideal S8192x32 .f32)

/-- The codebook is two chunks. -/
theorem two : 8192 = 4096 + 4096 := rfl

/-- The codewords of the whole codebook. -/
def book : Fin 8192 → Fin 32 → EReal := fun k j => C (ix2 k j)

/-- The first chunk of the codebook, as the kernel loads it. -/
def lo : Vec Ideal S4096x32 .f32 := View.ld C (Rect.unit ![0, 0] ![4096, 32] inb_S8192x32_S4096x32_0_0)

/-- The second chunk of the codebook, as the kernel loads it. -/
def hi : Vec Ideal S4096x32 .f32 := View.ld C (Rect.unit ![4096, 0] ![4096, 32] inb_S8192x32_S4096x32_4096_0)

theorem lo_at (k : Fin 4096) (j : Fin 32) : lo C (ix2 k j) = book C (inLo two k) j := by
  refine congrArg C (funext fun a => Fin.ext ?_)
  fin_cases a <;> simp [Rect.emb, Rect.unit, ix2, inLo, inHi, Nat.add_comm]

theorem hi_at (k : Fin 4096) (j : Fin 32) : hi C (ix2 k j) = book C (inHi two k) j := by
  refine congrArg C (funext fun a => Fin.ext ?_)
  fin_cases a <;> simp [Rect.emb, Rect.unit, ix2, inLo, inHi, Nat.add_comm]

/-- The distances of the second chunk as the kernel spells them. -/
abbrev gapHi : FVec Ideal S512x4096 .f32 :=
  subf (k0_pay16 (F := Ideal) Z e) (mulf (broadcast S512x4096 (Scalar.ofBits (F := Ideal) .f32 0x40000000#32)) (k0_pay15 (F := Ideal) Z e))

theorem gapHi_at (r : Fin 512) (k : Fin 4096) : gapHi Z e (ix2 r k) = gap (row Z r) (words e) k := by
  have h15 := pay15_at Z e r k
  have h16 := pay16_at Z e r k
  unfold gapHi
  generalize k0_pay15 (F := Ideal) Z e = v at h15 ⊢
  generalize k0_pay16 (F := Ideal) Z e = w at h16 ⊢
  pointwise
  rw [h15, h16, gap]

/-- The second chunk's index where its least distance is below the first chunk's. -/
theorem choose_at (v31 v44 : FVec Ideal S512x1 .f32) (v29 v53 : IVec S512x1 32) (r : Fin 512) :
    (select (cmpf .olt v44 v31) v53 v29) (ix2 r 0) = if (v44 (ix2 r 0) : EReal) < v31 (ix2 r 0) then v53 (ix2 r 0) else v29 (ix2 r 0) := by
  pointwise

/-- The index column that the kernel computes for a block. -/
abbrev bIdx : IVec S512x1 32 :=
  k0_pay17 (F := Ideal) (k0_pay13 Z (lo C)) (k0_pay14 Z (lo C)) (k0_pay15 Z (hi C)) (k0_pay16 Z (hi C))

theorem bIdx_eq : bIdx Z C = select (cmpf .olt (minCol (gapHi Z (hi C))) (k0_pay14 Z (lo C))) (argCol (gapHi Z (hi C)) (minCol (gapHi Z (hi C))) 4096#32)
    (k0_pay13 Z (lo C)) := rfl

theorem gap_lo (r : Fin 512) : gap (row Z r) (words (lo C)) = fun k => gap (row Z r) (book C) (inLo two k) := by
  funext k; unfold gap words; simp only [lo_at]

theorem gap_hi (r : Fin 512) : gap (row Z r) (words (hi C)) = fun k => gap (row Z r) (book C) (inHi two k) := by
  funext k; unfold gap words; simp only [hi_at]

/-- It is the index of the nearest codeword. -/
theorem bIdx_at (r : Fin 512) : bIdx Z C (ix2 r 0) = BitVec.ofNat 32 (near (book C) (row Z r)).val := by
  obtain ⟨k₀, h₀⟩ := exists_isFirstMin (gap (row Z r) (words (lo C)))
  obtain ⟨k₁, h₁⟩ := exists_isFirstMin (gap (row Z r) (words (hi C)))
  have em := minCol_at r (gapHi_at Z (hi C) r) h₁
  have ea := argCol_at r (gapHi_at Z (hi C) r) h₁ em 4096#32 (by norm_num)
  rw [show (4096#32).toNat = 4096 from rfl] at ea
  rw [bIdx_eq, choose_at, em, ea, pay13_at Z (lo C) r h₀, pay14_at Z (lo C) r h₀]
  rw [gap_lo] at h₀ ⊢
  rw [gap_hi] at h₁ ⊢
  unfold near
  rw [nearest_halves two h₀ h₁]
  split
  · rw [inHi, Nat.add_comm]
  · rw [inLo]

/-- The one-hot rows over the first chunk. -/
abbrev bHot0 : FVec Ideal S512x4096 .f32 :=
  k0_pay18 (F := Ideal) (k0_pay13 Z (lo C)) (k0_pay14 Z (lo C)) (k0_pay15 Z (hi C)) (k0_pay16 Z (hi C))

/-- The one-hot rows over the second chunk. -/
abbrev bHot1 : FVec Ideal S512x4096 .f32 :=
  k0_pay21 (F := Ideal) (k0_pay13 Z (lo C)) (k0_pay14 Z (lo C)) (k0_pay15 Z (hi C)) (k0_pay16 Z (hi C))

theorem bHot0_at (r : Fin 512) (k : Fin 4096) : bHot0 Z C (ix2 r k) = hot (book C) (row Z r) (inLo two k) := by
  have h := bIdx_at Z C r
  unfold bIdx at h
  unfold bHot0 k0_pay18
  generalize k0_pay17 (F := Ideal) _ _ _ _ = v at h ⊢
  pointwise
  rw [h, hot_signed, addi_index]
  have e : BitVec.ofNat 32 (k.val + (0#32).toNat) = BitVec.ofNat 32 (near (book C) (row Z r)).val ↔ inLo two k = near (book C) (row Z r) := by
    rw [ofNat_eq_iff (by simp; omega) (by omega), Fin.ext_iff]; simp [inLo]
  simp only [e, hot]

theorem bHot1_at (r : Fin 512) (k : Fin 4096) : bHot1 Z C (ix2 r k) = hot (book C) (row Z r) (inHi two k) := by
  have h := bIdx_at Z C r
  unfold bIdx at h
  unfold bHot1 k0_pay21
  generalize k0_pay17 (F := Ideal) _ _ _ _ = v at h ⊢
  pointwise
  rw [h, hot_signed, addi_index]
  have e : BitVec.ofNat 32 (k.val + (4096#32).toNat) = BitVec.ofNat 32 (near (book C) (row Z r)).val ↔ inHi two k = near (book C) (row Z r) := by
    rw [ofNat_eq_iff (by simp; omega) (by omega), Fin.ext_iff]; simp [inHi, Nat.add_comm]
  simp only [e, hot]

/-- The sum over both chunks of the one-hot row against the codewords is the nearest codeword. -/
theorem hot_sum_chunks (r : Fin 512) (j : Fin 32) :
    (∑ k, hot (book C) (row Z r) (inLo two k) * book C (inLo two k) j) + ∑ k, hot (book C) (row Z r) (inHi two k) * book C (inHi two k) j
      = book C (near (book C) (row Z r)) j := by
  rw [← sum_halves two fun k => hot (book C) (row Z r) k * book C k j]
  exact hot_sum _ _ j

/-- The selected codewords through the straight-through sum, as the kernel stores them. -/
abbrev bOut : FVec Ideal S512x32 .f32 :=
  k0_pay2 (F := Ideal) (k0_pay9 Z) (k0_pay19 (k0_pay13 Z (lo C)) (k0_pay14 Z (lo C)) (k0_pay15 Z (hi C)) (k0_pay16 Z (hi C)) (lo C)) (hi C) (bHot1 Z C)

theorem bOut_at (r : Fin 512) (j : Fin 32) : bOut Z C (ix2 r j) = out (book C) (row Z r) j := by
  have h0 := bHot0_at Z C r
  have h1 := bHot1_at Z C r
  have hs := hot_sum_chunks Z C r j
  have hl := fun k => lo_at C k j
  have hh := fun k => hi_at C k j
  unfold bHot0 at h0
  unfold bOut k0_pay2 k0_pay19 k0_pay9
  generalize k0_pay18 (F := Ideal) _ _ _ _ = w0 at h0 ⊢
  generalize bHot1 Z C = w1 at h1 ⊢
  generalize lo C = c0 at hl ⊢
  generalize hi C = c1 at hh ⊢
  pointwise
  simp only [h0, h1, hl, hh]
  simp only [out, row, ← hs]

/-! ## The accumulators -/

/-- The loss cell after the block: the cell before plus the squared errors of the block's rows. -/
abbrev bLoss (l : Vec Ideal S1x1 .f32) : FVec Ideal S1x1 .f32 :=
  k0_pay3 (F := Ideal) (k0_pay9 Z) (k0_pay19 (k0_pay13 Z (lo C)) (k0_pay14 Z (lo C)) (k0_pay15 Z (hi C)) (k0_pay16 Z (hi C)) (lo C)) (hi C) (bHot1 Z C) l

theorem bLoss_at (l : Vec Ideal S1x1 .f32) : bLoss Z C l (ix2 0 0) = l (ix2 0 0) + ∑ r, err (book C) (row Z r) := by
  have h := bOut_at Z C
  unfold bOut at h
  unfold bLoss k0_pay3 k0_pay9
  unfold k0_pay9 at h
  generalize k0_pay2 (F := Ideal) _ _ _ _ = q at h ⊢
  pointwise
  simp only [h, err, row]

/-- The counts of the first chunk after the block. -/
theorem cnt0_at (v : Vec Ideal S1x4096 .f32) (k : Fin 4096) :
    k0_pay20 (F := Ideal) (k0_pay13 Z (lo C)) (k0_pay14 Z (lo C)) (k0_pay15 Z (hi C)) (k0_pay16 Z (hi C)) v (ix2 0 k)
      = v (ix2 0 k) + ∑ r, hot (book C) (row Z r) (inLo two k) := by
  have h := fun r => bHot0_at Z C r k
  unfold bHot0 at h
  unfold k0_pay20
  generalize k0_pay18 (F := Ideal) _ _ _ _ = w at h ⊢
  pointwise
  simp only [h]

/-- The counts of the second chunk after the block. -/
theorem cnt1_at (v : Vec Ideal S1x4096 .f32) (k : Fin 4096) :
    k0_pay1 (F := Ideal) (bHot1 Z C) v (ix2 0 k) = v (ix2 0 k) + ∑ r, hot (book C) (row Z r) (inHi two k) := by
  have h := fun r => bHot1_at Z C r k
  unfold k0_pay1
  generalize bHot1 Z C = w at h ⊢
  pointwise
  simp only [h]

/-- The places of the first chunk's counts. -/
abbrev loCells : Rect S1x8192 := Rect.unit ![0, 0] ![1, 4096] inb_S1x8192_S1x4096_0_0

/-- The places of the second chunk's counts. -/
abbrev hiCells : Rect S1x8192 := Rect.unit ![0, 4096] ![1, 4096] inb_S1x8192_S1x4096_0_4096

theorem loCells_emb (k : Fin 4096) : loCells.emb (ix2 0 k) = ix2 0 (inLo two k) := by
  refine funext fun a => Fin.ext ?_
  fin_cases a <;> simp [Rect.emb, Rect.unit, ix2, inLo]

theorem hiCells_emb (k : Fin 4096) : hiCells.emb (ix2 0 k) = ix2 0 (inHi two k) := by
  refine funext fun a => Fin.ext ?_
  fin_cases a <;> simp [Rect.emb, Rect.unit, ix2, inHi, Nat.add_comm]

theorem ld_loCells (P : Vec Ideal S1x8192 .f32) (k : Fin 4096) : View.ld P loCells (ix2 0 k) = P (ix2 0 (inLo two k)) :=
  congrArg P (loCells_emb k)

theorem ld_hiCells (P : Vec Ideal S1x8192 .f32) (k : Fin 4096) : View.ld P hiCells (ix2 0 k) = P (ix2 0 (inHi two k)) :=
  congrArg P (hiCells_emb k)

theorem not_mem_hiCells (k : Fin 4096) : (ix2 0 (inLo two k) : S1x8192.Idx) ∉ hiCells.set := by
  intro h
  have := (Rect.mem_set_unit.mp h 1).1
  simp [ix2, inLo] at this
  omega

/-- Under the two stores a place of the first chunk holds the first store's value. -/
theorem canon_loCells (w₁ w₀ : Vec Ideal S1x4096 .f32) (L : List (View.Piece (Elt Ideal) S1x8192 .f32)) (y : S1x8192.Idx) (x : S1x4096.Idx)
    (hy : y = loCells.emb x) (hn : y ∉ hiCells.set) : View.canon (⟨hiCells, w₁⟩ :: ⟨loCells, w₀⟩ :: L) y = w₀ x := by
  refine (View.canon_cons_of_not_mem (Val := Elt Ideal) ⟨hiCells, w₁⟩ (⟨loCells, w₀⟩ :: L) hn).trans ?_
  rw [hy]
  exact View.canon_cons_emb (Val := Elt Ideal) loCells w₀ L x

/-- Under the two stores a place of the second chunk holds the second store's value. -/
theorem canon_hiCells (w₁ w₀ : Vec Ideal S1x4096 .f32) (L : List (View.Piece (Elt Ideal) S1x8192 .f32)) (y : S1x8192.Idx) (x : S1x4096.Idx)
    (hy : y = hiCells.emb x) : View.canon (⟨hiCells, w₁⟩ :: ⟨loCells, w₀⟩ :: L) y = w₁ x := by
  rw [hy]
  exact View.canon_cons_emb (Val := Elt Ideal) hiCells w₁ (⟨loCells, w₀⟩ :: L) x

/-- The counts after the block, whatever lay there before the two stores: the counts `P` that the block read plus the block's
    one-hot rows. -/
theorem cells_at (P : Vec Ideal S1x8192 .f32) (L : List (View.Piece (Elt Ideal) S1x8192 .f32)) (k : Fin 8192) :
    View.canon (⟨hiCells, k0_pay1 (F := Ideal) (bHot1 Z C) (View.ld P hiCells)⟩
      :: ⟨loCells, k0_pay20 (F := Ideal) (k0_pay13 Z (lo C)) (k0_pay14 Z (lo C)) (k0_pay15 Z (hi C)) (k0_pay16 Z (hi C)) (View.ld P loCells)⟩ :: L)
      (ix2 0 k) = P (ix2 0 k) + ∑ r, hot (book C) (row Z r) k := by
  rcases halves_cases two k with ⟨i, rfl⟩ | ⟨i, rfl⟩
  · have h := cnt0_at Z C (View.ld P loCells) i
    rw [ld_loCells] at h
    generalize k0_pay20 (F := Ideal) _ _ _ _ _ = w₀ at h ⊢
    generalize k0_pay1 (F := Ideal) _ _ = w₁
    exact (canon_loCells w₁ w₀ L _ _ (loCells_emb i).symm (not_mem_hiCells i)).trans h
  · have h := cnt1_at Z C (View.ld P hiCells) i
    rw [ld_hiCells] at h
    generalize k0_pay20 (F := Ideal) _ _ _ _ _ = w₀
    generalize k0_pay1 (F := Ideal) _ _ = w₁ at h ⊢
    exact (canon_hiCells w₁ w₀ L _ _ (hiCells_emb i).symm).trans h

/-- The loss cell after the last point's scaling. -/
theorem pay4_at (v : Vec Ideal S1x1 .f32) : k0_pay4 (F := Ideal) v (ix2 0 0) = v (ix2 0 0) * Ideal.ofBits .f32 889192448#32 := by
  unfold k0_pay4
  pointwise

/-- The perplexity cell from the counts. -/
theorem pay5_at (v : Vec Ideal S1x8192 .f32) : k0_pay5 (F := Ideal) v (ix2 0 0)
    = Ideal.exp (0 - ∑ k, v (ix2 0 k) * Ideal.ofBits .f32 947912704#32
        * Ideal.log (v (ix2 0 k) * Ideal.ofBits .f32 947912704#32 + Ideal.ofBits .f32 786163455#32)) := by
  unfold k0_pay5
  pointwise
  simp only [Finset.univ_unique, Finset.sum_singleton]

/-- The counts start from zero. -/
theorem pay6_at (k : Fin 8192) : k0_pay6 (F := Ideal) (ix2 0 k) = (0 : EReal) := by
  unfold k0_pay6
  pointwise

/-- The loss starts from zero. -/
theorem pay7_at : k0_pay7 (F := Ideal) (ix2 0 0) = (0 : EReal) := by
  unfold k0_pay7
  pointwise

end Cert.KernelIdeal.Gen

end
-- ==== Proof.Outs.lean ====
/- What one grid point of the kernel leaves in its windows, from the blocks that it reads and the values that
   the point before it left. -/
module

public import proofs.«01_k».proof.Proof.Gen.KernelIdeal.Frame
public import proofs.«01_k».proof.Proof.Block
public import Idealize.ShloMosaic.Lib.Pipeline.ReadBack

@[expose] public section

set_option maxRecDepth 16384

noncomputable section

open Idealize.ShloMosaic Idealize.ShloMosaic.TcCoe Idealize.SL.Sem

namespace Cert.KernelIdeal.Gen

open Cert.Vq

variable (m : (ℓ : Loc nD τ sig) → Buf (Elt Ideal) ℓ) (c : Dev nD) (t : Fin cfg0.N)

/-- The block of rows that a point reads. -/
abbrev rowsAt : Vec Ideal S512x32 .f32 := iblk m c 0 t

/-- The codebook, whole at every point. -/
abbrev bookAt : Vec Ideal S8192x32 .f32 := iblk m c 1 t

/-- Every point stores the selected codewords of its rows. -/
theorem outs_values : (outsAt0 m c t.val t.isLt).1 = bOut (rowsAt m c t) (bookAt m c t) := by
  by_cases h0 : t.val % 32 = 0
  · rw [outsAt0_A m c t h0 (by omega)]; dsimp only; frame_out; rfl
  · by_cases h1 : t.val % 32 = 31
    · rw [outsAt0_C m c t h0 h1]; dsimp only; frame_out; rfl
    · rw [outsAt0_B m c t h0 h1]; dsimp only; frame_out; rfl

/-- Every point stores the indices of the nearest codewords of its rows. -/
theorem outs_index : (outsAt0 m c t.val t.isLt).2.1 = bIdx (rowsAt m c t) (bookAt m c t) := by
  by_cases h0 : t.val % 32 = 0
  · rw [outsAt0_A m c t h0 (by omega)]; dsimp only; frame_out; rfl
  · by_cases h1 : t.val % 32 = 31
    · rw [outsAt0_C m c t h0 h1]; dsimp only; frame_out; rfl
    · rw [outsAt0_B m c t h0 h1]; dsimp only; frame_out; rfl

/-- The first point's loss starts from zero. -/
theorem outs_loss_first (h0 : t.val % 32 = 0) :
    (outsAt0 m c t.val t.isLt).2.2.1 = bLoss (rowsAt m c t) (bookAt m c t) (k0_pay7 (F := Ideal)) := by
  rw [outsAt0_A m c t h0 (by omega)]; dsimp only; frame_out; rfl

/-- A point between adds its part to the loss. -/
theorem outs_loss_next (h0 : ¬ t.val % 32 = 0) (h1 : ¬ t.val % 32 = 31) :
    (outsAt0 m c t.val t.isLt).2.2.1
      = bLoss (rowsAt m c t) (bookAt m c t) (outsAt0 m c (t.val - 1) (Nat.lt_of_le_of_lt (Nat.sub_le _ _) t.isLt)).2.2.1 := by
  rw [outsAt0_B m c t h0 h1]; dsimp only; frame_out; rfl

/-- The last point adds its part and scales the loss. -/
theorem outs_loss_last (h0 : ¬ t.val % 32 = 0) (h1 : t.val % 32 = 31) :
    (outsAt0 m c t.val t.isLt).2.2.1
      = k0_pay4 (F := Ideal) (bLoss (rowsAt m c t) (bookAt m c t) (outsAt0 m c (t.val - 1) (Nat.lt_of_le_of_lt (Nat.sub_le _ _) t.isLt)).2.2.1) := by
  rw [outsAt0_C m c t h0 h1]; dsimp only; frame_out; rfl

/-- The first point's counts start from zero. -/
theorem outs_counts_first (h0 : t.val % 32 = 0) (k : Fin 8192) :
    (outsAt0 m c t.val t.isLt).2.2.2.2 (ix2 0 k) = ∑ r, hot (book (bookAt m c t)) (row (rowsAt m c t) r) k := by
  rw [outsAt0_A m c t h0 (by omega)]
  dsimp only
  frame_open
  simp (disch := decide) only [↓ View.readCov_skip, ↓ View.readCov_cons_toLoadRect, ↓ View.readCov_fill]
  frame_out
  refine (cells_at (rowsAt m c t) (bookAt m c t) (k0_pay6 (F := Ideal)) _ k).trans ?_
  rw [pay6_at, zero_add]

/-- A later point adds its one-hot rows to the counts. -/
theorem outs_counts_next (h0 : ¬ t.val % 32 = 0) (k : Fin 8192) :
    (outsAt0 m c t.val t.isLt).2.2.2.2 (ix2 0 k)
      = (outsAt0 m c (t.val - 1) (Nat.lt_of_le_of_lt (Nat.sub_le _ _) t.isLt)).2.2.2.2 (ix2 0 k)
        + ∑ r, hot (book (bookAt m c t)) (row (rowsAt m c t) r) k := by
  by_cases h1 : t.val % 32 = 31
  · rw [outsAt0_C m c t h0 h1]
    dsimp only
    frame_open
    simp (disch := decide) only [↓ View.readCov_skip, ↓ View.readCov_cons_toLoadRect, ↓ View.readCov_fill]
    frame_out
    exact cells_at (rowsAt m c t) (bookAt m c t) _ _ k
  · rw [outsAt0_B m c t h0 h1]
    dsimp only
    frame_open
    simp (disch := decide) only [↓ View.readCov_skip, ↓ View.readCov_cons_toLoadRect, ↓ View.readCov_fill]
    frame_out
    exact cells_at (rowsAt m c t) (bookAt m c t) _ _ k

/-- The last point stores the perplexity of the counts that it leaves. -/
theorem outs_perp_last (h0 : ¬ t.val % 32 = 0) (h1 : t.val % 32 = 31) :
    (outsAt0 m c t.val t.isLt).2.2.2.1 = k0_pay5 (F := Ideal) (outsAt0 m c t.val t.isLt).2.2.2.2 := by
  rw [outsAt0_C m c t h0 h1]
  dsimp only
  frame_open
  simp (disch := decide) only [↓ View.readCov_skip, ↓ View.readCov_cons_toLoadRect, ↓ View.readCov_fill]
  frame_out
  refine congrArg (k0_pay5 (F := Ideal)) ?_
  rw [View.readCov_eq_canon']
  exact View.ld_unit_lit _ _ (by decide)

end Cert.KernelIdeal.Gen

end
-- ==== Proof.Arrays.lean ====
/- What the arrays of the kernel hold after the run: the codewords and indices row by row, the loss and the
   counts as sums over all 16384 rows. -/
module

public import proofs.«01_k».proof.Proof.Outs
public import Idealize.ShloMosaic.Lib.Claim

@[expose] public section

set_option maxRecDepth 16384

noncomputable section

open Idealize.ShloMosaic Idealize.ShloMosaic.TcCoe Idealize.SL.Sem

namespace Cert.KernelIdeal.Gen

open Cert.Vq

variable (m : (ℓ : Loc nD τ sig) → Buf (Elt Ideal) ℓ) (c : Dev nD)

/-- Row `i` of the inputs, the leading two axes taken together. -/
def inRow (i : Fin 16384) : Fin 32 → EReal := fun j => (V m c main_v0 : S16384x32.Idx → EReal) (ix2 i j)

/-- The codewords. -/
def words8 : Fin 8192 → Fin 32 → EReal := fun k j => (m ((c.tc : Thread nD τ).loc main_arg1) : S8192x32.Idx → EReal) (ix2 k j)

variable (t : Fin cfg0.N)

theorem idx_rows : ∀ t : Fin cfg0.N, (cfg0.win 0).index t = ![t.val, 0] := by decide +kernel

theorem idx_book : ∀ t : Fin cfg0.N, (cfg0.win 1).index t = ![0, 0] := by decide +kernel

theorem rowsAt_row (r : Fin 512) (h : 512 * t.val + r.val < 16384) : row (rowsAt m c t) r = inRow m c ⟨512 * t.val + r.val, h⟩ := by
  funext j
  unfold row inRow rowsAt
  blk_ext [iblk, idx_rows t]

theorem bookAt_eq : book (bookAt m c t) = words8 m c := by
  funext k j
  unfold book words8 bookAt
  blk_ext [iblk, V, idx_book t]

theorem point_lt : t.val < 32 := lt_of_lt_of_eq t.isLt N_0

/-! ## The accumulators as sums -/

/-- The squared error of row `i` of all rows, 0 past the end. -/
def errAt (i : ℕ) : EReal := if h : i < 16384 then err (words8 m c) (inRow m c ⟨i, h⟩) else 0

/-- The one-hot entry of row `i` of all rows, 0 past the end. -/
def hotAt (k : Fin 8192) (i : ℕ) : EReal := if h : i < 16384 then hot (words8 m c) (inRow m c ⟨i, h⟩) k else 0

theorem errAt_of (r : Fin 512) : err (book (bookAt m c t)) (row (rowsAt m c t) r) = errAt m c (t.val * 512 + r.val) := by
  have ht := point_lt t
  have h : 512 * t.val + r.val < 16384 := by omega
  rw [bookAt_eq, rowsAt_row m c t r h, errAt, dif_pos (by omega)]
  simp only [Nat.mul_comm]

theorem hotAt_of (k : Fin 8192) (r : Fin 512) : hot (book (bookAt m c t)) (row (rowsAt m c t) r) k = hotAt m c k (t.val * 512 + r.val) := by
  have ht := point_lt t
  have h : 512 * t.val + r.val < 16384 := by omega
  rw [bookAt_eq, rowsAt_row m c t r h, hotAt, dif_pos (by omega)]
  simp only [Nat.mul_comm]

/-- A sum over points and the rows of a block is a sum over all rows. -/
theorem sum_rows (g : ℕ → EReal) (n : ℕ) : (∑ s ∈ Finset.range (n + 1), ∑ r : Fin 512, g (s * 512 + r.val)) = ∑ i ∈ Finset.range ((n + 1) * 512), g i := by
  rw [Finset.sum_range_mul_split]
  refine Finset.sum_congr rfl fun s _ => ?_
  rw [Finset.sum_range]

/-- The loss before the last point: the squared errors of all rows so far. -/
theorem loss_upto : ∀ (n : ℕ) (hn : n < cfg0.N), n < 31 →
    (outsAt0 m c n hn).2.2.1 (ix2 0 0) = ∑ s ∈ Finset.range (n + 1), ∑ r : Fin 512, errAt m c (s * 512 + r.val)
  | 0, hn, _ => by
    rw [outs_loss_first m c ⟨0, hn⟩ rfl, bLoss_at, pay7_at, zero_add, Finset.sum_range_one]
    exact Finset.sum_congr rfl fun r _ => errAt_of m c ⟨0, hn⟩ r
  | n + 1, hn, h31 => by
    have e := outs_loss_next m c ⟨n + 1, hn⟩ (by dsimp only; omega) (by dsimp only; omega)
    have ih := loss_upto n (by omega) (by omega)
    dsimp only at e
    simp only [Nat.add_sub_cancel] at e
    rw [e, bLoss_at, ih, Finset.sum_range_succ _ (n + 1)]
    exact congrArg _ (Finset.sum_congr rfl fun r _ => errAt_of m c ⟨n + 1, hn⟩ r)

/-- The counts after a point: the one-hot entries of all rows so far. -/
theorem counts_upto (k : Fin 8192) : ∀ (n : ℕ) (hn : n < cfg0.N), n < 32 →
    (outsAt0 m c n hn).2.2.2.2 (ix2 0 k) = ∑ s ∈ Finset.range (n + 1), ∑ r : Fin 512, hotAt m c k (s * 512 + r.val)
  | 0, hn, _ => by
    rw [outs_counts_first m c ⟨0, hn⟩ rfl, Finset.sum_range_one]
    exact Finset.sum_congr rfl fun r _ => hotAt_of m c ⟨0, hn⟩ k r
  | n + 1, hn, h32 => by
    have e := outs_counts_next m c ⟨n + 1, hn⟩ (by dsimp only; omega) k
    have ih := counts_upto k n (by omega) (by omega)
    dsimp only at e
    simp only [Nat.add_sub_cancel] at e
    rw [e, ih, Finset.sum_range_succ _ (n + 1)]
    exact congrArg _ (Finset.sum_congr rfl fun r _ => hotAt_of m c ⟨n + 1, hn⟩ k r)

/-- The last grid point. -/
def lastPt : Fin cfg0.N := ⟨31, by decide +kernel⟩

theorem lastPt_val : lastPt.val = 31 := rfl

/-- The squared errors of all rows, summed. -/
def errSum : EReal := ∑ i : Fin 16384, err (words8 m c) (inRow m c i)

/-- How many rows have codeword `k` nearest. -/
def count (k : Fin 8192) : EReal := ∑ i : Fin 16384, hot (words8 m c) (inRow m c i) k

theorem sum_errAt : ∑ i ∈ Finset.range 16384, errAt m c i = errSum m c := by
  rw [Finset.sum_range]
  exact Finset.sum_congr rfl fun i _ => dif_pos i.isLt

theorem sum_hotAt (k : Fin 8192) : ∑ i ∈ Finset.range 16384, hotAt m c k i = count m c k := by
  rw [Finset.sum_range]
  exact Finset.sum_congr rfl fun i _ => dif_pos i.isLt

/-- The counts after the last point. -/
theorem counts_last (k : Fin 8192) : (outsAt0 m c lastPt.val lastPt.isLt).2.2.2.2 (ix2 0 k) = count m c k := by
  rw [counts_upto m c k lastPt.val lastPt.isLt (by decide), sum_rows, lastPt_val, sum_hotAt]

/-- The loss after the last point. -/
theorem loss_last : (outsAt0 m c lastPt.val lastPt.isLt).2.2.1 (ix2 0 0) = errSum m c * Ideal.ofBits .f32 889192448#32 := by
  have hn : lastPt.val - 1 < cfg0.N := Nat.lt_of_le_of_lt (Nat.sub_le _ _) lastPt.isLt
  rw [outs_loss_last m c lastPt (by decide) (by decide), pay4_at, bLoss_at, loss_upto m c (lastPt.val - 1) hn (by decide)]
  have e : ∑ r : Fin 512, err (book (bookAt m c lastPt)) (row (rowsAt m c lastPt) r) = ∑ r : Fin 512, errAt m c (31 * 512 + r.val) :=
    Finset.sum_congr rfl fun r _ => errAt_of m c lastPt r
  rw [e, lastPt_val, ← Finset.sum_range_succ (fun s => ∑ r : Fin 512, errAt m c (s * 512 + r.val)) 31, sum_rows, sum_errAt]

/-- The perplexity after the last point. -/
theorem perp_last : (outsAt0 m c lastPt.val lastPt.isLt).2.2.2.1 (ix2 0 0)
    = Ideal.exp (0 - ∑ k, count m c k * Ideal.ofBits .f32 947912704#32
        * Ideal.log (count m c k * Ideal.ofBits .f32 947912704#32 + Ideal.ofBits .f32 786163455#32)) := by
  rw [outs_perp_last m c lastPt (by decide) (by decide), pay5_at]
  simp only [counts_last]

/-! ## The arrays -/

theorem idx_values : ∀ t : Fin cfg0.N, (cfg0.win 2).index t = ![t.val, 0] := by decide +kernel

theorem idx_index : ∀ t : Fin cfg0.N, (cfg0.win 3).index t = ![t.val, 0] := by decide +kernel

/-- The array of values: row `i` holds the value returned for row `i`. -/
def valArr : S16384x32.Idx → EReal := fun i => out (words8 m c) (inRow m c (i 0)) (i 1)

/-- The array of indices: row `i` holds the index of the codeword nearest to row `i`. -/
def idxArr : S16384x1.Idx → BitVec 32 := fun i => BitVec.ofNat 32 (near (words8 m c) (inRow m c (i 0))).val

/-- An array of one cell has one index. -/
theorem one_cell (j : S1x1.Idx) : j = ix2 0 0 := by
  refine (eq_ix2 j).trans ?_
  rw [Subsingleton.elim (α := Fin 1) (j 0) 0, Subsingleton.elim (α := Fin 1) (j 1) 0]

theorem arr_values : (dats m 0 c).arrAt 2 (cfgs 0).N = valArr m c := by
  refine (dats m 0 c).arrAt_eq_of_covers 2 _ (by decide +kernel) fun t hf y => ?_
  blk_simp
  rw [after0_2, outs_values]
  obtain ⟨r, j, rfl⟩ : ∃ (r : Fin 512) (j : Fin 32), y = ix2 r j := ⟨y 0, y 1, eq_ix2 y⟩
  have ht := point_lt t
  have h : 512 * t.val + r.val < 16384 := by omega
  have e : (win0_2.blk t).view.emb (ix2 r j) = (ix2 (⟨512 * t.val + r.val, h⟩ : Fin 16384) j : S16384x32.Idx) := by
    blk_ext [idx_values t]
  rw [bOut_at, bookAt_eq, rowsAt_row m c t r h]
  exact (congrArg (valArr m c) e).symm

theorem arr_index : (dats m 0 c).arrAt 3 (cfgs 0).N = idxArr m c := by
  refine (dats m 0 c).arrAt_eq_of_covers 3 _ (by decide +kernel) fun t hf y => ?_
  blk_simp
  rw [after0_3, outs_index]
  obtain ⟨r, rfl⟩ : ∃ r : Fin 512, y = ix2 r (0 : Fin 1) := ⟨y 0, (eq_ix2 y).trans (congrArg (ix2 (y 0)) (Subsingleton.elim (α := Fin 1) _ _))⟩
  have ht := point_lt t
  have h : 512 * t.val + r.val < 16384 := by omega
  have e : (win0_3.blk t).view.emb (ix2 r (0 : Fin 1)) = (ix2 (⟨512 * t.val + r.val, h⟩ : Fin 16384) (0 : Fin 1) : S16384x1.Idx) := by
    blk_ext [idx_index t]
  rw [bIdx_at, bookAt_eq, rowsAt_row m c t r h]
  exact (congrArg (idxArr m c) e).symm

theorem arr_loss : (dats m 0 c).arrAt 4 (cfgs 0).N = fun _ => errSum m c * Ideal.ofBits .f32 889192448#32 := by
  refine (dats m 0 c).arrAt_eq_of_after_last 4 lastPt (by decide +kernel) _ fun j => ?_
  blk_simp
  rw [after0_4, one_cell j]
  exact loss_last m c

theorem arr_perp : (dats m 0 c).arrAt 5 (cfgs 0).N = fun _ => Ideal.exp (0 - ∑ k, count m c k * Ideal.ofBits .f32 947912704#32
        * Ideal.log (count m c k * Ideal.ofBits .f32 947912704#32 + Ideal.ofBits .f32 786163455#32)) := by
  refine (dats m 0 c).arrAt_eq_of_after_last 5 lastPt (by decide +kernel) _ fun j => ?_
  blk_simp
  rw [after0_5, one_cell j]
  exact perp_last m c

/-! ## The run -/

theorem inRow_eq (i : Fin 16384) (j : Fin 32) : inRow m c i j
    = (shapeCast S16384x32 (m ((c.tc : Thread nD τ).loc main_arg0) : S16x1024x32.Idx → EReal) shapeCasts_S16x1024x32_S16384x32) (ix2 i j) := by
  unfold inRow
  unfold V V0 hostOps0
  simp only [List.flatten_cons, List.flatten_nil, List.append_nil]
  after_results
  rfl

theorem arrRef_inj : Function.Injective (Pipeline.arrRef (cfgs 0).spec) := by decide +kernel

/-- An array of the launch read after the run. -/
theorem after_arr (w : Fin 7) (b : Ref sig .tc) (hb : Pipeline.arrRef (cfgs 0).spec w = b) (X : b.ty.Contents (Elt Ideal))
    (hX : HEq ((dats m 0 c).arrAt w (cfgs 0).N) X) :
    Pipeline.withArrays (cfgs 0).spec c (V0 m c) (fun w => (dats m 0 c).arrAt w (cfgs 0).N) (Proc.devRef .tc b) = X := by
  subst hb
  exact (Pipeline.withArrays_arr (cfgs 0).spec arrRef_inj c (V0 m c) (fun w => (dats m 0 c).arrAt w (cfgs 0).N) w).trans (eq_of_heq hX)

/-- The kernel's run: every result in closed form, the arguments unchanged. -/
theorem run (g : Dev nD → PrngReg) : θ_run defs (onTc (τ := τ) (main (F := Ideal))) ⟨m, fun _ => 0, g⟩ (fun r => ∀ c : Dev nD,
    r.2.mem ((c.tc : Thread nD τ).loc main_v2) = shapeCast S16x1024x32 (valArr m c) shapeCasts_S16384x32_S16x1024x32
    ∧ r.2.mem ((c.tc : Thread nD τ).loc main_v3) = (fun _ => errSum m c * Ideal.ofBits .f32 889192448#32)
    ∧ r.2.mem ((c.tc : Thread nD τ).loc main_v4) = shapeCast S16384 (idxArr m c) shapeCasts_S16384x1_S16384
    ∧ r.2.mem ((c.tc : Thread nD τ).loc main_v5) = (fun _ => Ideal.exp (0 - ∑ k, count m c k * Ideal.ofBits .f32 947912704#32
        * Ideal.log (count m c k * Ideal.ofBits .f32 947912704#32 + Ideal.ofBits .f32 786163455#32)))
    ∧ r.2.mem ((c.tc : Thread nD τ).loc main_arg0) = m ((c.tc : Thread nD τ).loc main_arg0)
    ∧ r.2.mem ((c.tc : Thread nD τ).loc main_arg1) = m ((c.tc : Thread nD τ).loc main_arg1)) := by
  run_from run_main m g & unchanged m g
  · unfold Pipeline.afterTail₀ hostOps1
    simp only [List.flatten_cons, List.flatten_nil, List.append_nil]
    after_results
    rw [after_arr m c 2 main_v1_0 rfl _ (heq_of_eq (arr_values m c))]
    rfl
  · unfold Pipeline.afterTail₀ hostOps1
    simp only [List.flatten_cons, List.flatten_nil, List.append_nil]
    after_results
    rw [after_arr m c 4 main_v1_2 rfl _ (heq_of_eq (arr_loss m c))]
    rfl
  · unfold Pipeline.afterTail₀ hostOps1
    simp only [List.flatten_cons, List.flatten_nil, List.append_nil]
    after_results
    rw [after_arr m c 3 main_v1_1 rfl _ (heq_of_eq (arr_index m c))]
    rfl
  · unfold Pipeline.afterTail₀ hostOps1
    simp only [List.flatten_cons, List.flatten_nil, List.append_nil]
    after_results
    rw [after_arr m c 5 main_v1_3 rfl _ (heq_of_eq (arr_perp m c))]
    rfl

end Cert.KernelIdeal.Gen

end
-- ==== Proof.RefRun.lean ====
/- The reference's run: its four results as terms of its two arguments, in the reference's own operations. -/
module

public import proofs.«01_k».proof.Defs
public import proofs.«01_k».proof.Proof.Codes
public import Idealize.ShloMosaic.Lib.Claim

@[expose] public section

set_option maxRecDepth 16384

noncomputable section

open Idealize.ShloMosaic Idealize.ShloMosaic.TcCoe Idealize.SL.Sem

namespace Cert.ReferenceIdeal

open Facts₀ Facts

variable [Cert.ReferenceIdeal.Facts]
variable (A : FVec Ideal S16x1024x32 .f32) (E : FVec Ideal S8192x32 .f32)

/-- The inputs as rows. -/
def rRows : FVec Ideal S16384x32 .f32 := shapeCast S16384x32 A shapeCasts_S16x1024x32_S16384x32

/-- The distance of every row to every codeword. -/
def rDist : FVec Ideal S16384x8192 .f32 :=
  subf
    (addf
      (broadcastInDim S16384x8192 ![0, 1] bcast_S16384x1_S16384x8192_0_1 (broadcastInDim S16384x1 ![0] bcast_S16384_S16384x1_0
        (Host.reduceAdd (mulf (rRows A) (rRows A)) (constant S_ .f32 0x00000000#32) reducesTo_S16384x32_S16384_d1 h_S_)))
      (broadcastInDim S16384x8192 ![0, 1] bcast_S1x8192_S16384x8192_0_1 (broadcastInDim S1x8192 ![1] bcast_S8192_S1x8192_1
        (Host.reduceAdd (mulf E E) (constant S_ .f32 0x00000000#32) reducesTo_S8192x32_S8192_d1 h_S_))))
    (mulf (broadcastInDim S16384x8192 ![] bcast_S_S16384x8192 (constant S_ .f32 0x40000000#32))
      (Host.dotGeneral dot_S16384x32_S32x8192_S16384x8192_1_0_0_1_n_n none (rRows A)
        (transpose S32x8192 [1, 0] E transposes_S8192x32_S32x8192_1_0)))

/-- The least distance of every row and the number of its codeword. -/
def rPairs : S16384.Idx → Ideal .f32 × BitVec 32 :=
  Host.argReduce (reducer_argmin_f32_i32 (F := Ideal)) (rDist A E) (iotaInDim S16384x8192 32 1)
    (constant S_ .f32 0x7F800000#32) (constantI S_ 32 0#32) reducesTo_S16384x8192_S16384_d1 h_S_

/-- The number of the nearest codeword of every row. -/
def rIndex : IVec S16384 32 := Prod.snd ∘ rPairs A E

/-- Every row's choice as a row of zeros and a one. -/
def rHot : FVec Ideal S16384x8192 .f32 :=
  uitofp .f32 (cmpi .eq
    (broadcastInDim S16384x8192 ![0, 1] bcast_S16384x1_S16384x8192_0_1 (broadcastInDim S16384x1 ![0] bcast_S16384_S16384x1_0 (rIndex A E)))
    (broadcastInDim S16384x8192 ![0, 1] bcast_S1x8192_S16384x8192_0_1 (iotaInDim S1x8192 32 1)))

/-- The chosen codewords, one row each. -/
def rChosen : FVec Ideal S16384x32 .f32 :=
  Host.dotGeneral dot_S16384x8192_S8192x32_S16384x32_1_0_0_1_n_n none (rHot A E) E

/-- The first result: the inputs, moved onto their codewords. -/
def rOut : FVec Ideal S16x1024x32 .f32 :=
  addf A (subf (shapeCast S16x1024x32 (rChosen A E) shapeCasts_S16384x32_S16x1024x32) A)

/-- The second result: the scaled mean of the squared moves. -/
def rLoss : FVec Ideal S_ .f32 :=
  mulf (constant S_ .f32 0x3E800000#32) (Host.divf
    (Host.reduceAdd (mulf (subf (rOut A E) A) (subf (rOut A E) A)) (constant S_ .f32 0x00000000#32) reducesTo_S16x1024x32_S_d0_1_2 h_S_)
    (constant S_ .f32 0x49000000#32))

/-- The share of the rows that chose each codeword. -/
def rShare : FVec Ideal S8192 .f32 :=
  Host.divf (Host.reduceAdd (rHot A E) (constant S_ .f32 0x00000000#32) reducesTo_S16384x8192_S8192_d0 h_S_)
    (broadcastInDim S8192 ![] bcast_S_S8192 (constant S_ .f32 0x46800000#32))

/-- The fourth result: the perplexity of these shares. -/
def rPerp : FVec Ideal S_ .f32 :=
  Host.exp (Host.negf (Host.reduceAdd (mulf (rShare A E) (Host.log (addf (rShare A E)
      (broadcastInDim S8192 ![] bcast_S_S8192 (constant S_ .f32 0x2EDBE6FF#32)))))
    (constant S_ .f32 0x00000000#32) reducesTo_S8192_S_d0 h_S_))

variable (m : (ℓ : Loc nD τ sig) → Buf (Elt Ideal) ℓ)

/-- Every run of the reference leaves these four results and its arguments unchanged. -/
theorem run (g : Dev nD → PrngReg) :
    θ_run defs (onTc (τ := τ) (main (F := Ideal))) ⟨m, fun _ => 0, g⟩ (fun r => ∀ c : Dev nD,
      r.2.mem ((c.tc : Thread nD τ).loc main_v20) = rOut (m ((c.tc : Thread nD τ).loc main_arg0)) (m ((c.tc : Thread nD τ).loc main_arg1))
      ∧ r.2.mem ((c.tc : Thread nD τ).loc main_v25) = rLoss (m ((c.tc : Thread nD τ).loc main_arg0)) (m ((c.tc : Thread nD τ).loc main_arg1))
      ∧ r.2.mem ((c.tc : Thread nD τ).loc main_v15) = rIndex (m ((c.tc : Thread nD τ).loc main_arg0)) (m ((c.tc : Thread nD τ).loc main_arg1))
      ∧ r.2.mem ((c.tc : Thread nD τ).loc main_v35) = rPerp (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  hlo_run
  all_goals (try simp -implicitDefEqProofs only [StableHlo.TRef.toBuf, StableHlo.TRef.ofBuf, cast_cast, cast_eq])
  · delta rOut rChosen rHot rIndex rPairs rDist rRows
    rfl
  · delta rLoss rOut rChosen rHot rIndex rPairs rDist rRows
    rfl
  · rfl
  · delta rPerp rShare rHot rIndex rPairs rDist rRows
    rfl

end Cert.ReferenceIdeal

end
-- ==== Proof.RefValue.lean ====
/- What the reference computes at an index, in exact arithmetic. -/
module

public import proofs.«01_k».proof.Proof.RefRun
public import Idealize.ShloMosaic.Lib.Pointwise
public import Idealize.ShloMosaic.Lib.Pipeline.Value

@[expose] public section

set_option maxRecDepth 16384

noncomputable section

open Idealize.ShloMosaic Idealize.ShloMosaic.TcCoe Idealize.SL.Sem

namespace Cert.ReferenceIdeal

open Facts₀ Facts Cert.Vq

variable [Cert.ReferenceIdeal.Facts]
variable (A : FVec Ideal S16x1024x32 .f32) (E : FVec Ideal S8192x32 .f32)

/-- Row `i` of the inputs. -/
def rRow (i : Fin 16384) : Fin 32 → EReal := fun j => rRows A (ix2 i j)

/-- The codewords. -/
def rWords : Fin 8192 → Fin 32 → EReal := fun k j => E (ix2 k j)

/-- The distances. -/
theorem rDist_at (i : Fin 16384) (k : Fin 8192) : rDist A E (ix2 i k) = gap (rRow A i) (rWords E) k := by
  unfold rDist
  simp only [rRow, gap, rWords]
  generalize rRows A = X
  pointwise

/-- The reference's comparison keeps the pair with the lower value, and of two equal values the one with the lower number. -/
theorem reducer_eq (a b : EReal × BitVec 32) :
    reducer_argmin_f32_i32 (F := Ideal) a b
      = (if a.1 < b.1 then a.1 else b.1, if a.1 < b.1 ∨ a.1 = b.1 ∧ a.2.toInt < b.2.toInt then a.2 else b.2) := by
  unfold reducer_argmin_f32_i32
  simp only [Ideal.cmpf_def, Ideal.cmp, IntOp.cmpi, IntOp.ori, IntOp.andi, Scalar.select, BitVec.slt]
  by_cases h1 : a.1 < b.1 <;> by_cases h2 : a.1 = b.1 <;> by_cases h3 : a.2.toInt < b.2.toInt <;> simp [h1, h2, h3]

/-- The pair the reference's comparison keeps is one of its two arguments, and not above either. -/
theorem reducer_cases (a b : EReal × BitVec 32) :
    (reducer_argmin_f32_i32 (F := Ideal) a b = a ∧ Below a b) ∨ (reducer_argmin_f32_i32 (F := Ideal) a b = b ∧ Below b a) := by
  rw [reducer_eq]
  obtain ⟨x, n⟩ := a
  obtain ⟨y, k⟩ := b
  unfold Below
  rcases lt_trichotomy x y with h | rfl | h
  · left; simp [h]
  · rcases lt_or_ge n.toInt k.toInt with h | h
    · left; simp [h, h.le]
    · right; simp [h, h.not_gt]
  · right; simp [h, h.not_gt, h.ne']

/-- The pair the reference's comparison keeps is not above either of its arguments. -/
theorem reducer_below (a b : EReal × BitVec 32) :
    Below (reducer_argmin_f32_i32 (F := Ideal) a b) a ∧ Below (reducer_argmin_f32_i32 (F := Ideal) a b) b := by
  rcases reducer_cases a b with ⟨h, h'⟩ | ⟨h, h'⟩ <;> rw [h]
  · exact ⟨Below.refl a, h'⟩
  · exact ⟨h', Below.refl b⟩

/-- A row's fiber holds the pairs of the row's distances and their numbers. -/
theorem mem_fiber (D : FVec Ideal S16384x8192 .f32) (i : Fin 16384) (p : EReal × BitVec 32) :
    p ∈ Host.argReduceFiber (α := Ideal .f32) D (iotaInDim S16384x8192 32 1) reducesTo_S16384x8192_S16384_d1 (ix1 i)
      ↔ ∃ k : Fin 8192, p = (D (ix2 i k), BitVec.ofNat 32 k.val) := by
  simp only [Host.argReduceFiber, List.mem_map, List.mem_filter, List.mem_finRange, true_and, decide_eq_true_eq]
  constructor
  · rintro ⟨n, hn, rfl⟩
    generalize S16384x8192.rowMajor.symm n = q at hn ⊢
    rw [eq_ix2 q] at hn ⊢
    have h0 : (q 0 : Fin 16384) = i := Fin.ext (congrArg Fin.val (congrFun hn 0))
    refine ⟨q 1, ?_⟩
    rw [h0]
    rfl
  · rintro ⟨k, rfl⟩
    refine ⟨S16384x8192.rowMajor (ix2 i k), ?_, ?_⟩
    · rw [Equiv.symm_apply_apply]
      refine funext fun b => Fin.ext ?_
      match b with
      | ⟨0, _⟩ => rfl
    · rw [Equiv.symm_apply_apply]
      rfl

/-- The pair the reference's reduction ends with for a row. -/
theorem rPairs_at (i : Fin 16384) : rPairs A E (ix1 i)
    = (gap (rRow A i) (rWords E) (near (rWords E) (rRow A i)), BitVec.ofNat 32 (near (rWords E) (rRow A i)).val) := by
  delta rPairs
  rw [← rDist_at]
  have hd : (fun k => rDist A E (ix2 i k)) = gap (rRow A i) (rWords E) := funext fun k => rDist_at A E i k
  have hk : IsFirstMin (fun k => rDist A E (ix2 i k)) (near (rWords E) (rRow A i)) := hd ▸ nearest_spec _
  generalize near (rWords E) (rRow A i) = k at hk ⊢
  generalize rDist A E = D at hk ⊢
  rw [Ideal.argReduce_eq_reduce2, Host.reduce2_eq_foldl_fiber]
  have hi : ((constant S_ .f32 0x7F800000#32 : FVec Ideal S_ .f32) (Shape.Idx.first h_S_), constantI S_ 32 0#32 (Shape.Idx.first h_S_))
      = ((⊤ : EReal), (0#32 : BitVec 32)) := Prod.ext inf_bits rfl
  rw [hi]
  exact foldl_pairs_eq (by norm_num) hk _
    (fun a b => (reducer_below a b).1) (fun a b => (reducer_below a b).2)
    (fun a b => (reducer_cases a b).imp And.left And.left) _ (mem_fiber D i)

/-- The second component of a pair that is known. -/
theorem snd_comp {ι α β : Type} (p : ι → α × β) (i : ι) (a : α) (b : β) (h : p i = (a, b)) : (Prod.snd ∘ p) i = b := by
  rw [Function.comp_apply, h]

/-- The index the reference returns for a row. -/
theorem rIndex_at (i : Fin 16384) : rIndex A E (ix1 i) = BitVec.ofNat 32 (near (rWords E) (rRow A i)).val :=
  snd_comp (rPairs A E) _ _ _ (rPairs_at A E i)

/-- The one-hot rows. -/
theorem rHot_at (i : Fin 16384) (k : Fin 8192) : rHot A E (ix2 i k) = hot (rWords E) (rRow A i) k := by
  have h := rIndex_at A E i
  delta rHot
  generalize rIndex A E = I at h ⊢
  pointwise
  rw [h, hot_unsigned]
  unfold hot
  refine if_congr ?_ rfl rfl
  rw [ofNat_eq_iff (by have := (near (rWords E) (rRow A i)).isLt; omega) (by have := k.isLt; omega), Fin.ext_iff]
  exact eq_comm

/-- The chosen codewords. -/
theorem rChosen_at (i : Fin 16384) (j : Fin 32) : rChosen A E (ix2 i j) = rWords E (near (rWords E) (rRow A i)) j := by
  have h := rHot_at A E i
  delta rChosen
  generalize rHot A E = H at h ⊢
  pointwise
  simp only [h]
  exact hot_sum (rWords E) (rRow A i) j

/-- The number of rows that chose a codeword, as a share. -/
theorem rShare_at (k : Fin 8192) : rShare A E (ix1 k)
    = Ideal.div (∑ i, hot (rWords E) (rRow A i) k) (Ideal.ofBits .f32 0x46800000#32) := by
  have h := fun i => rHot_at A E i k
  delta rShare
  generalize rHot A E = H at h ⊢
  pointwise
  simp only [h]

/-- The returned rows as an array. -/
def rOutArr : S16384x32.Idx → EReal := fun i => out (rWords E) (rRow A (i 0)) (i 1)

/-- The inputs are their rows, reshaped. -/
theorem rRows_back : A = shapeCast S16x1024x32 (rRows A) shapeCasts_S16384x32_S16x1024x32 := by
  unfold rRows
  exact (shapeCast_shapeCast A _ _).symm

/-- The rows' array at an index. -/
theorem rRows_at (i : S16384x32.Idx) : rRows A i = rRow A (i 0) (i 1) := congrArg (rRows A) (eq_ix2 i)

/-- The first result: the returned rows, reshaped. -/
theorem rOut_eq : rOut A E = shapeCast S16x1024x32 (rOutArr A E) shapeCasts_S16384x32_S16x1024x32 := by
  have hC : rChosen A E = fun i => rWords E (near (rWords E) (rRow A (i 0))) (i 1) := funext fun i => by
    rw [eq_ix2 i]
    exact rChosen_at A E _ _
  funext p
  delta rOut
  rw [hC]
  show A p + (rWords E _ _ - A p) = _
  rw [congrFun (rRows_back A) p]
  unfold shapeCast
  rw [rRows_at]
  rfl

/-- The sum of the squared moves over the whole array is the sum of the rows' squared errors. -/
theorem rErr_sum : ∑ p : S16x1024x32.Idx, (rOut A E p - A p) * (rOut A E p - A p) = ∑ i, err (rWords E) (rRow A i) := by
  let f : S16384x32.Idx → EReal := fun i => (rOutArr A E i - rRows A i) * (rOutArr A E i - rRows A i)
  have hf : ∀ p : S16x1024x32.Idx, (rOut A E p - A p) * (rOut A E p - A p)
      = f (Shape.reshapeEquiv shapeCasts_S16384x32_S16x1024x32 p) := fun p => by
    rw [rOut_eq, congrFun (rRows_back A) p]
    rfl
  rw [Finset.sum_congr rfl fun p _ => hf p, Equiv.sum_comp (Shape.reshapeEquiv shapeCasts_S16384x32_S16x1024x32) f, sum_idx2]
  rfl

/-- The second result. -/
theorem rLoss_at (q : S_.Idx) : rLoss A E q = Ideal.ofBits .f32 0x3E800000#32
    * Ideal.div (∑ i, err (rWords E) (rRow A i)) (Ideal.ofBits .f32 0x49000000#32) := by
  rw [← rErr_sum]
  delta rLoss
  generalize rOut A E = O
  pointwise
  rw [sum_idx3]

/-- The fourth result. -/
theorem rPerp_at (q : S_.Idx) : rPerp A E q = Ideal.exp (-∑ k, rShare A E (ix1 k)
    * Ideal.log (rShare A E (ix1 k) + Ideal.ofBits .f32 0x2EDBE6FF#32)) := by
  delta rPerp
  generalize rShare A E = P
  pointwise

end Cert.ReferenceIdeal

end
-- ==== Proof.Equal.lean ====
/- The arithmetic that joins the two programs' last steps: a division by a power of two is a multiplication by
   its inverse, on every extended real. -/
module

public import proofs.«01_k».proof.Proof.Codes

@[expose] public section

noncomputable section

open Idealize.ShloMosaic

namespace Cert.Vq

/-- The five scales that are powers of two: a quarter, the number of elements, the number of rows, and the
    kernel's two factors. -/
theorem scale_bits :
    Ideal.ofBits .f32 0x3E800000#32 = ((1 / 4 : ℝ) : EReal) ∧ Ideal.ofBits .f32 0x49000000#32 = ((524288 : ℝ) : EReal)
    ∧ Ideal.ofBits .f32 0x46800000#32 = ((16384 : ℝ) : EReal) ∧ Ideal.ofBits .f32 0x35000000#32 = ((1 / 2097152 : ℝ) : EReal)
    ∧ Ideal.ofBits .f32 0x38800000#32 = ((1 / 16384 : ℝ) : EReal) := by
  refine ⟨?_, ?_, ?_, ?_, ?_⟩ <;>
    simp [Ideal.ofBits, Ideal.ieee] <;> norm_num <;> rw [← EReal.coe_mul] <;> norm_num

/-- The quotient by a real that is not zero is the product with its inverse. -/
theorem div_real (x : EReal) {y : ℝ} (hy : y ≠ 0) : Ideal.div x (y : EReal) = x * ((y⁻¹ : ℝ) : EReal) := by
  unfold Ideal.div
  rw [if_neg (by exact_mod_cast hy), EReal.coe_inv]

/-- A quarter of the mean of 524288 squares is their sum times 2⁻²¹. -/
theorem loss_scale (x : EReal) : Ideal.ofBits .f32 0x3E800000#32 * Ideal.div x (Ideal.ofBits .f32 0x49000000#32)
    = x * Ideal.ofBits .f32 0x35000000#32 := by
  obtain ⟨h1, h2, -, h3, -⟩ := scale_bits
  rw [h1, h2, h3, div_real x (by norm_num), mul_left_comm, ← EReal.coe_mul]
  norm_num

/-- The share of 16384 rows is the count times 2⁻¹⁴. -/
theorem share_scale (x : EReal) : Ideal.div x (Ideal.ofBits .f32 0x46800000#32) = x * Ideal.ofBits .f32 0x38800000#32 := by
  obtain ⟨-, -, h1, -, h2⟩ := scale_bits
  rw [h1, h2, div_real x (by norm_num)]
  norm_num

end Cert.Vq

end
-- ==== Proof.Join.lean ====
/- The equation: what the kernel's four results hold is what the reference's four results hold, for the same arguments. -/
module

public import proofs.«01_k».proof.Proof.Arrays
public import proofs.«01_k».proof.Proof.RefValue
public import proofs.«01_k».proof.Proof.Equal

@[expose] public section

set_option maxRecDepth 16384

noncomputable section

open Idealize.ShloMosaic Idealize.ShloMosaic.TcCoe Idealize.SL.Sem

namespace Cert.Join

open Cert.Vq Cert.KernelIdeal.Gen Cert.ReferenceIdeal

variable [Cert.ReferenceIdeal.Facts]
variable (m : (ℓ : Loc KernelIdeal.nD KernelIdeal.τ KernelIdeal.sig) → Buf (Elt Ideal) ℓ) (c : Dev KernelIdeal.nD)

/-- The first argument. -/
abbrev argA : FVec Ideal S16x1024x32 .f32 := m ((c.tc : Thread KernelIdeal.nD KernelIdeal.τ).loc KernelIdeal.main_arg0)

/-- The second argument. -/
abbrev argE : FVec Ideal S8192x32 .f32 := m ((c.tc : Thread KernelIdeal.nD KernelIdeal.τ).loc KernelIdeal.main_arg1)

/-- The kernel's rows are the reference's. -/
theorem row_eq (i : Fin 16384) : inRow m c i = rRow (argA m c) i := funext fun j => inRow_eq m c i j

/-- The kernel's codewords are the reference's. -/
theorem words_eq : words8 m c = rWords (argE m c) := rfl

/-- The first result. -/
theorem out_join : shapeCast KernelIdeal.S16x1024x32 (valArr m c) KernelIdeal.Gen.shapeCasts_S16384x32_S16x1024x32
    = rOut (argA m c) (argE m c) := by
  have h : valArr m c = rOutArr (argA m c) (argE m c) :=
    funext fun i => congrArg (fun x => out (rWords (argE m c)) x (i 1)) (row_eq m c (i 0))
  rw [rOut_eq, h]

/-- The second result. -/
theorem loss_join : (fun _ => errSum m c * Ideal.ofBits .f32 889192448#32) = rLoss (argA m c) (argE m c) := funext fun q => by
  rw [rLoss_at, loss_scale]
  unfold errSum
  simp only [row_eq, words_eq]

/-- The third result at a row. -/
theorem index_at (a : Fin 16384) : shapeCast KernelIdeal.S16384 (idxArr m c) KernelIdeal.Gen.shapeCasts_S16384x1_S16384 (ix1 a)
    = rIndex (argA m c) (argE m c) (ix1 a) := by
  rw [rIndex_at, ← row_eq, ← words_eq]
  have h : ∀ a : Fin 16384, idxArr m c (ix2 a 0) = BitVec.ofNat 32 (near (words8 m c) (inRow m c a)).val := fun _ => rfl
  rw [← h]
  generalize idxArr m c = X
  pointwise

/-- The third result. -/
theorem index_join : shapeCast KernelIdeal.S16384 (idxArr m c) KernelIdeal.Gen.shapeCasts_S16384x1_S16384
    = rIndex (argA m c) (argE m c) := funext fun i =>
  (congrArg _ (eq_ix1 i)).trans ((index_at m c (i 0)).trans (congrArg _ (eq_ix1 i)).symm)

/-- The fourth result. -/
theorem perp_join : (fun _ => Ideal.exp (0 - ∑ k, KernelIdeal.Gen.count m c k * Ideal.ofBits .f32 947912704#32
      * Ideal.log (KernelIdeal.Gen.count m c k * Ideal.ofBits .f32 947912704#32 + Ideal.ofBits .f32 786163455#32)))
    = rPerp (argA m c) (argE m c) := funext fun q => by
  have h : ∀ k, rShare (argA m c) (argE m c) (ix1 k) = KernelIdeal.Gen.count m c k * Ideal.ofBits .f32 947912704#32 := fun k => by
    rw [rShare_at, share_scale]
    unfold KernelIdeal.Gen.count
    simp only [row_eq, words_eq]
  rw [rPerp_at, zero_sub]
  simp only [h]

end Cert.Join

end
-- ==== Proof.lean ====
/- The five claims put together: the frames of the two programs of the kernel and of the reference, and the equality
   of the four results over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Join
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem Cert.Kernel

/-- The kernel on words terminates and leaves its arguments and counters as they were. -/
theorem kernel_frame : Cert.quiescent_Kernel (hKernel := Cert.Kernel.Gen.facts) := fun m ρ _ => Cert.Kernel.Gen.frame m ρ

/-- The kernel in exact arithmetic likewise. -/
theorem kernelIdeal_frame : Cert.quiescent_KernelIdeal (hKernelIdeal := Cert.KernelIdeal.Gen.facts) :=
  fun m ρ _ => Cert.KernelIdeal.Gen.frame m ρ

/-- The reference in exact arithmetic likewise. -/
theorem reference_frame : Cert.quiescent_ReferenceIdeal (hReferenceIdeal := Cert.ReferenceIdeal.Gen.facts) := by
  have := Cert.ReferenceIdeal.Gen.facts
  intro m g _
  exact θ_run_mono (Cert.ReferenceIdeal.run m g) fun r h =>
    ⟨fun c => ⟨(h c).2.2.2.2.1, (h c).2.2.2.2.2⟩, sem_eq_zero_of_no_sems (by decide) r.2⟩

/-- The kernel and the reference return the same four results. -/
theorem same_results : Cert.algebraic_KernelIdeal_ReferenceIdeal (hKernelIdeal := Cert.KernelIdeal.Gen.facts)
    (hReferenceIdeal := Cert.ReferenceIdeal.Gen.facts) := by
  have := Cert.ReferenceIdeal.Gen.facts
  intro m g m' g' _ hagree
  refine ⟨fun c => Cert.ReferenceIdeal.rOut (Cert.Join.argA m c) (Cert.Join.argE m c),
    fun c => Cert.ReferenceIdeal.rLoss (Cert.Join.argA m c) (Cert.Join.argE m c),
    fun c => Cert.ReferenceIdeal.rIndex (Cert.Join.argA m c) (Cert.Join.argE m c),
    fun c => Cert.ReferenceIdeal.rPerp (Cert.Join.argA m c) (Cert.Join.argE m c), ?_, ?_⟩
  · refine θ_run_mono (Cert.KernelIdeal.Gen.run m g) fun r h c => ?_
    obtain ⟨h0, h1, h2, h3, ha⟩ := h c
    exact ⟨h0.trans (Cert.Join.out_join m c), h1.trans (Cert.Join.loss_join m c), h2.trans (Cert.Join.index_join m c),
      h3.trans (Cert.Join.perp_join m c), ha⟩
  · refine θ_run_mono (Cert.ReferenceIdeal.run m' g') fun r h c => ?_
    have hr := h c
    rw [(hagree c).1, (hagree c).2] at hr
    rw [(hagree c).1, (hagree c).2]
    exact hr

/-- Every claim. -/
theorem claim : Cert.Claim := ⟨Cert.Kernel.Gen.facts, Cert.KernelIdeal.Gen.facts, Cert.ReferenceIdeal.Gen.facts,
  kernel_frame, kernelIdeal_frame, reference_frame, trivial, same_results⟩

end Cert.Proof

end
